-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_as_set_up [hPre_inputs_as_set_up : Cert.Pre_inputs_as_set_up.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_inputs_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_inputs_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_inputs_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_as_set_up [hPre_inputs_as_set_up : Cert.Pre_inputs_as_set_up.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_inputs_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_inputs_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_inputs_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_inputs_as_set_up [hKernelIdeal : Cert.KernelIdeal.Facts] [hPre_inputs_as_set_up : Cert.Pre_inputs_as_set_up.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_as_set_up m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_inputs_as_set_up [hReferenceIdeal : Cert.ReferenceIdeal.Facts] [hPre_inputs_as_set_up : Cert.Pre_inputs_as_set_up.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_as_set_up m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_inputs_as_set_up [hKernelIdeal : Cert.KernelIdeal.Facts] [hReferenceIdeal : Cert.ReferenceIdeal.Facts] [hPre_inputs_as_set_up : Cert.Pre_inputs_as_set_up.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_as_set_up m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_inputs_as_set_up : Cert.Pre_inputs_as_set_up.Facts),
    quiescent_Kernel (hKernel := hKernel)
    ∧ quiescent_KernelIdeal (hKernelIdeal := hKernelIdeal)
    ∧ quiescent_KernelIdeal_pre_inputs_as_set_up (hKernelIdeal := hKernelIdeal) (hPre_inputs_as_set_up := hPre_inputs_as_set_up)
    ∧ quiescent_ReferenceIdeal (hReferenceIdeal := hReferenceIdeal)
    ∧ quiescent_ReferenceIdeal_pre_inputs_as_set_up (hReferenceIdeal := hReferenceIdeal) (hPre_inputs_as_set_up := hPre_inputs_as_set_up)
    ∧ preserves_Kernel_KernelIdeal
    ∧ algebraic_KernelIdeal_ReferenceIdeal_pre_inputs_as_set_up (hKernelIdeal := hKernelIdeal) (hReferenceIdeal := hReferenceIdeal) (hPre_inputs_as_set_up := hPre_inputs_as_set_up)
-- ==== Pre_inputs_as_set_up.lean ====
abbrev S16384x11 : Shape := ⟨2, ![16384, 11]⟩
abbrev S100000x32 : Shape := ⟨2, ![100000, 32]⟩
abbrev S7x16 : Shape := ⟨2, ![7, 16]⟩
abbrev S24x16 : Shape := ⟨2, ![24, 16]⟩
abbrev S103x1024 : Shape := ⟨2, ![103, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S16384x4 : Shape := ⟨2, ![16384, 4]⟩
abbrev S_ : Shape := ⟨0, ![]⟩

class Facts : Prop where
  slices_S16384x11_S16384x4_0_0 : S16384x11.Slices ![0, 0] S16384x4
  bcast_S_S16384x4 : S_.BroadcastsInDim S16384x4 (![] : Fin 0 → Fin S16384x4.rank)
  bcast_S_S1024 : S_.BroadcastsInDim S1024 (![] : Fin 0 → Fin S1024.rank)
  bcast_S_S1 : S_.BroadcastsInDim S1 (![] : Fin 0 → Fin S1.rank)

variable [Facts]

def fn {F : FTy → Type} [FloatOps F] (main_arg0 : IVec S16384x11 32) (main_arg1 : FVec F S100000x32 .f32) (main_arg2 : FVec F S7x16 .f32) (main_arg3 : FVec F S24x16 .f32) (main_arg4 : FVec F S100000x32 .f32) (main_arg5 : FVec F S103x1024 .f32) (main_arg6 : FVec F S1024 .f32) (main_arg7 : FVec F S1024x1024 .f32) (main_arg8 : FVec F S1024 .f32) (main_arg9 : FVec F S1024x1 .f32) (main_arg10 : FVec F S1 .f32) : IVec S16384x4 1 × IVec S1024 1 × IVec S1024 1 × IVec S1 1 :=
  let main_v0 : IVec S16384x4 32 := (extractStridedSlice S16384x4 ![0, 0] · slices_S16384x11_S16384x4_0_0) main_arg0
  let main_c : IVec S_ 32 := constantI S_ 32 0#32
  let main_v1 : IVec S16384x4 32 := broadcastInDim S16384x4 ![] bcast_S_S16384x4 main_c
  let main_v2 : IVec S16384x4 1 := cmpi .sge main_v0 main_v1
  let main_c_0 : IVec S_ 32 := constantI S_ 32 7#32
  let main_v3 : IVec S16384x4 32 := broadcastInDim S16384x4 ![] bcast_S_S16384x4 main_c_0
  let main_v4 : IVec S16384x4 1 := cmpi .slt main_v0 main_v3
  let main_v5 : IVec S16384x4 1 := andi main_v2 main_v4
  let main_cst : FVec F S_ .f32 := constant S_ .f32 0x00000000#32
  let main_v6 : FVec F S1024 .f32 := broadcastInDim S1024 ![] bcast_S_S1024 main_cst
  let main_v7 : IVec S1024 1 := cmpf .oeq main_arg6 main_v6
  let main_cst_1 : FVec F S_ .f32 := constant S_ .f32 0x00000000#32
  let main_v8 : FVec F S1024 .f32 := broadcastInDim S1024 ![] bcast_S_S1024 main_cst_1
  let main_v9 : IVec S1024 1 := cmpf .oeq main_arg8 main_v8
  let main_cst_2 : FVec F S_ .f32 := constant S_ .f32 0x00000000#32
  let main_v10 : FVec F S1 .f32 := broadcastInDim S1 ![] bcast_S_S1 main_cst_2
  let main_v11 : IVec S1 1 := cmpf .oeq main_arg10 main_v10
  (main_v5, main_v7, main_v9, main_v11)
-- ==== Kernel.lean ====
abbrev S16384x11 : Shape := ⟨2, ![16384, 11]⟩
abbrev S100000x32 : Shape := ⟨2, ![100000, 32]⟩
abbrev S7x16 : Shape := ⟨2, ![7, 16]⟩
abbrev S24x16 : Shape := ⟨2, ![24, 16]⟩
abbrev S103x1024 : Shape := ⟨2, ![103, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S8x32 : Shape := ⟨2, ![8, 32]⟩
abbrev S8x16 : Shape := ⟨2, ![8, 16]⟩
abbrev S8x80 : Shape := ⟨2, ![8, 80]⟩
abbrev S1x1024 : Shape := ⟨2, ![1, 1024]⟩
abbrev S16384x1 : Shape := ⟨2, ![16384, 1]⟩
abbrev S4096x11 : Shape := ⟨2, ![4096, 11]⟩
abbrev S4096x1 : Shape := ⟨2, ![4096, 1]⟩
abbrev S11x39 : Shape := ⟨2, ![11, 39]⟩
abbrev S4096x39 : Shape := ⟨2, ![4096, 39]⟩
abbrev S1x16 : Shape := ⟨2, ![1, 16]⟩
abbrev S32x1024 : Shape := ⟨2, ![32, 1024]⟩
abbrev S8x1024 : Shape := ⟨2, ![8, 1024]⟩
abbrev S16x1024 : Shape := ⟨2, ![16, 1024]⟩
abbrev S7x1024 : Shape := ⟨2, ![7, 1024]⟩
abbrev S39x1024 : Shape := ⟨2, ![39, 1024]⟩
abbrev S4096x1024 : Shape := ⟨2, ![4096, 1024]⟩
abbrev S4096 : Shape := ⟨1, ![4096]⟩

abbrev nBuf : Space → Nat
  | .hbm => 17
  | .vmem => 9
  | .smem => 0
  | _ => 0

abbrev bufTy : (tb : Table) → Fin (tcTables nBuf tb) → BufTy
  | .hbm, ⟨0, _⟩ => ⟨S16384x11, .i32⟩
  | .hbm, ⟨1, _⟩ => ⟨S100000x32, .f32⟩
  | .hbm, ⟨2, _⟩ => ⟨S7x16, .f32⟩
  | .hbm, ⟨3, _⟩ => ⟨S24x16, .f32⟩
  | .hbm, ⟨4, _⟩ => ⟨S100000x32, .f32⟩
  | .hbm, ⟨5, _⟩ => ⟨S103x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1, .f32⟩
  | .hbm, ⟨10, _⟩ => ⟨S1, .f32⟩
  | .hbm, ⟨11, _⟩ => ⟨S8x32, .f32⟩
  | .hbm, ⟨12, _⟩ => ⟨S8x32, .f32⟩
  | .hbm, ⟨13, _⟩ => ⟨S8x16, .f32⟩
  | .hbm, ⟨14, _⟩ => ⟨S8x80, .f32⟩
  | .hbm, ⟨15, _⟩ => ⟨S1x1024, .f32⟩
  | .hbm, ⟨16, _⟩ => ⟨S16384x1, .f32⟩
  | .local _ .vmem, ⟨0, _⟩ => ⟨S4096x11, .i32⟩
  | .local _ .vmem, ⟨1, _⟩ => ⟨S4096x11, .i32⟩
  | .local _ .vmem, ⟨2, _⟩ => ⟨S8x80, .f32⟩
  | .local _ .vmem, ⟨3, _⟩ => ⟨S7x16, .f32⟩
  | .local _ .vmem, ⟨4, _⟩ => ⟨S103x1024, .f32⟩
  | .local _ .vmem, ⟨5, _⟩ => ⟨S1024x1024, .f32⟩
  | .local _ .vmem, ⟨6, _⟩ => ⟨S1x1024, .f32⟩
  | .local _ .vmem, ⟨7, _⟩ => ⟨S4096x1, .f32⟩
  | .local _ .vmem, ⟨8, _⟩ => ⟨S4096x1, .f32⟩
  | _, _ => ⟨S16384x11, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x11 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x80 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S7x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S103x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S16384x11 : Shape := ⟨2, ![16384, 11]⟩
abbrev S100000x32 : Shape := ⟨2, ![100000, 32]⟩
abbrev S7x16 : Shape := ⟨2, ![7, 16]⟩
abbrev S24x16 : Shape := ⟨2, ![24, 16]⟩
abbrev S103x1024 : Shape := ⟨2, ![103, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S16384x1 : Shape := ⟨2, ![16384, 1]⟩
abbrev S16384 : Shape := ⟨1, ![16384]⟩
abbrev S_ : Shape := ⟨0, ![]⟩
abbrev S1x1 : Shape := ⟨2, ![1, 1]⟩
abbrev S16384x32 : Shape := ⟨2, ![16384, 32]⟩
abbrev S16384x16 : Shape := ⟨2, ![16384, 16]⟩
abbrev S16384x7 : Shape := ⟨2, ![16384, 7]⟩
abbrev S16384x103 : Shape := ⟨2, ![16384, 103]⟩
abbrev S16384x1024 : Shape := ⟨2, ![16384, 1024]⟩
abbrev S1x1024 : Shape := ⟨2, ![1, 1024]⟩

abbrev nBuf : Space → Nat
  | .hbm => 132
  | .vmem => 0
  | .smem => 0
  | _ => 0

abbrev hbmTy0_0 (i : Nat) : BufTy := match i % 128 with
  | 0 => ⟨S16384x11, .i32⟩
  | 1 => ⟨S100000x32, .f32⟩
  | 2 => ⟨S7x16, .f32⟩
  | 3 => ⟨S24x16, .f32⟩
  | 4 => ⟨S100000x32, .f32⟩
  | 5 => ⟨S103x1024, .f32⟩
  | 6 => ⟨S1024, .f32⟩
  | 7 => ⟨S1024x1024, .f32⟩
  | 8 => ⟨S1024, .f32⟩
  | 9 => ⟨S1024x1, .f32⟩
  | 10 => ⟨S1, .f32⟩
  | 11 => ⟨S16384x1, .i32⟩
  | 12 => ⟨S16384, .i32⟩
  | 13 => ⟨S_, .i32⟩
  | 14 => ⟨S16384, .i32⟩
  | 15 => ⟨S16384, .i1⟩
  | 16 => ⟨S_, .i32⟩
  | 17 => ⟨S16384, .i32⟩
  | 18 => ⟨S16384, .i32⟩
  | 19 => ⟨S16384, .i32⟩
  | 20 => ⟨S16384x1, .i32⟩
  | 21 => ⟨S1, .i32⟩
  | 22 => ⟨S_, .i32⟩
  | 23 => ⟨S16384x1, .i32⟩
  | 24 => ⟨S16384x1, .i1⟩
  | 25 => ⟨S1x1, .i32⟩
  | 26 => ⟨S16384x1, .i32⟩
  | 27 => ⟨S16384x1, .i1⟩
  | 28 => ⟨S16384x1, .i1⟩
  | 29 => ⟨S_, .i1⟩
  | 30 => ⟨S16384, .i1⟩
  | 31 => ⟨S16384x32, .f32⟩
  | 32 => ⟨S16384x32, .i1⟩
  | 33 => ⟨S_, .f32⟩
  | 34 => ⟨S16384x32, .f32⟩
  | 35 => ⟨S16384x32, .f32⟩
  | 36 => ⟨S16384x1, .i32⟩
  | 37 => ⟨S16384, .i32⟩
  | 38 => ⟨S_, .i32⟩
  | 39 => ⟨S16384, .i32⟩
  | 40 => ⟨S16384, .i1⟩
  | 41 => ⟨S_, .i32⟩
  | 42 => ⟨S16384, .i32⟩
  | 43 => ⟨S16384, .i32⟩
  | 44 => ⟨S16384, .i32⟩
  | 45 => ⟨S16384x1, .i32⟩
  | 46 => ⟨S1, .i32⟩
  | 47 => ⟨S_, .i32⟩
  | 48 => ⟨S16384x1, .i32⟩
  | 49 => ⟨S16384x1, .i1⟩
  | 50 => ⟨S1x1, .i32⟩
  | 51 => ⟨S16384x1, .i32⟩
  | 52 => ⟨S16384x1, .i1⟩
  | 53 => ⟨S16384x1, .i1⟩
  | 54 => ⟨S_, .i1⟩
  | 55 => ⟨S16384, .i1⟩
  | 56 => ⟨S16384x16, .f32⟩
  | 57 => ⟨S16384x16, .i1⟩
  | 58 => ⟨S_, .f32⟩
  | 59 => ⟨S16384x16, .f32⟩
  | 60 => ⟨S16384x16, .f32⟩
  | 61 => ⟨S16384x1, .i32⟩
  | 62 => ⟨S16384, .i32⟩
  | 63 => ⟨S_, .i32⟩
  | 64 => ⟨S16384, .i32⟩
  | 65 => ⟨S16384, .i1⟩
  | 66 => ⟨S_, .i32⟩
  | 67 => ⟨S16384, .i32⟩
  | 68 => ⟨S16384, .i32⟩
  | 69 => ⟨S16384, .i32⟩
  | 70 => ⟨S16384x1, .i32⟩
  | 71 => ⟨S1, .i32⟩
  | 72 => ⟨S_, .i32⟩
  | 73 => ⟨S16384x1, .i32⟩
  | 74 => ⟨S16384x1, .i1⟩
  | 75 => ⟨S1x1, .i32⟩
  | 76 => ⟨S16384x1, .i32⟩
  | 77 => ⟨S16384x1, .i1⟩
  | 78 => ⟨S16384x1, .i1⟩
  | 79 => ⟨S_, .i1⟩
  | 80 => ⟨S16384, .i1⟩
  | 81 => ⟨S16384x16, .f32⟩
  | 82 => ⟨S16384x16, .i1⟩
  | 83 => ⟨S_, .f32⟩
  | 84 => ⟨S16384x16, .f32⟩
  | 85 => ⟨S16384x16, .f32⟩
  | 86 => ⟨S16384x1, .i32⟩
  | 87 => ⟨S16384, .i32⟩
  | 88 => ⟨S_, .i32⟩
  | 89 => ⟨S16384, .i32⟩
  | 90 => ⟨S16384, .i1⟩
  | 91 => ⟨S_, .i32⟩
  | 92 => ⟨S16384, .i32⟩
  | 93 => ⟨S16384, .i32⟩
  | 94 => ⟨S16384, .i32⟩
  | 95 => ⟨S16384x1, .i32⟩
  | 96 => ⟨S1, .i32⟩
  | 97 => ⟨S_, .i32⟩
  | 98 => ⟨S16384x1, .i32⟩
  | 99 => ⟨S16384x1, .i1⟩
  | 100 => ⟨S1x1, .i32⟩
  | 101 => ⟨S16384x1, .i32⟩
  | 102 => ⟨S16384x1, .i1⟩
  | 103 => ⟨S16384x1, .i1⟩
  | 104 => ⟨S_, .i1⟩
  | 105 => ⟨S16384, .i1⟩
  | 106 => ⟨S16384x32, .f32⟩
  | 107 => ⟨S16384x32, .i1⟩
  | 108 => ⟨S_, .f32⟩
  | 109 => ⟨S16384x32, .f32⟩
  | 110 => ⟨S16384x32, .f32⟩
  | 111 => ⟨S16384x7, .i32⟩
  | 112 => ⟨S16384x7, .f32⟩
  | 113 => ⟨S16384x103, .f32⟩
  | 114 => ⟨S16384x1024, .f32⟩
  | 115 => ⟨S1x1024, .f32⟩
  | 116 => ⟨S16384x1024, .f32⟩
  | 117 => ⟨S16384x1024, .f32⟩
  | 118 => ⟨S_, .f32⟩
  | 119 => ⟨S16384x1024, .f32⟩
  | 120 => ⟨S16384x1024, .f32⟩
  | 121 => ⟨S16384x1024, .f32⟩
  | 122 => ⟨S1x1024, .f32⟩
  | 123 => ⟨S16384x1024, .f32⟩
  | 124 => ⟨S16384x1024, .f32⟩
  | 125 => ⟨S_, .f32⟩
  | 126 => ⟨S16384x1024, .f32⟩
  | 127 => ⟨S16384x1024, .f32⟩
  | _ => ⟨S16384x11, .i32⟩

abbrev hbmTy0_1 (i : Nat) : BufTy := match i % 128 with
  | 0 => ⟨S16384x1, .f32⟩
  | 1 => ⟨S1x1, .f32⟩
  | 2 => ⟨S16384x1, .f32⟩
  | 3 => ⟨S16384x1, .f32⟩
  | _ => ⟨S16384x11, .i32⟩

abbrev hbmTy (i : Nat) : BufTy := match i / 128 with
  | 0 => hbmTy0_0 i
  | 1 => hbmTy0_1 i
  | _ => ⟨S16384x11, .i32⟩

abbrev bufTy : (tb : Table) → Fin (tcTables nBuf tb) → BufTy
  | .hbm, ⟨i, _⟩ => hbmTy i
  | _, _ => ⟨S16384x11, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_call2_c : Ref sig .tc := ⟨.hbm, 63, rfl⟩
abbrev main_call2_v0 : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_c_1 : Ref sig .tc := ⟨.hbm, 71, rfl⟩
abbrev main_call2_c_2 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_c_3 : Ref sig .tc := ⟨.hbm, 79, rfl⟩
abbrev main_call2_v12 : Ref sig .tc := ⟨.hbm, 80, rfl⟩
abbrev main_call2_v13 : Ref sig .tc := ⟨.hbm, 81, rfl⟩
abbrev main_call2_v14 : Ref sig .tc := ⟨.hbm, 82, rfl⟩
abbrev main_call2_cst : Ref sig .tc := ⟨.hbm, 83, rfl⟩
abbrev main_call2_v15 : Ref sig .tc := ⟨.hbm, 84, rfl⟩
abbrev main_v8 : Ref sig .tc := ⟨.hbm, 85, rfl⟩
abbrev main_v9 : Ref sig .tc := ⟨.hbm, 86, rfl⟩
abbrev main_v10 : Ref sig .tc := ⟨.hbm, 87, rfl⟩
abbrev main_call3_c : Ref sig .tc := ⟨.hbm, 88, rfl⟩
abbrev main_call3_v0 : Ref sig .tc := ⟨.hbm, 89, rfl⟩
abbrev main_call3_v1 : Ref sig .tc := ⟨.hbm, 90, rfl⟩
abbrev main_call3_c_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_c_1 : Ref sig .tc := ⟨.hbm, 96, rfl⟩
abbrev main_call3_c_2 : Ref sig .tc := ⟨.hbm, 97, rfl⟩
abbrev main_call3_v6 : Ref sig .tc := ⟨.hbm, 98, rfl⟩
abbrev main_call3_v7 : Ref sig .tc := ⟨.hbm, 99, rfl⟩
abbrev main_call3_v8 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_c_3 : Ref sig .tc := ⟨.hbm, 104, rfl⟩
abbrev main_call3_v12 : Ref sig .tc := ⟨.hbm, 105, rfl⟩
abbrev main_call3_v13 : Ref sig .tc := ⟨.hbm, 106, rfl⟩
abbrev main_call3_v14 : Ref sig .tc := ⟨.hbm, 107, rfl⟩
abbrev main_call3_cst : Ref sig .tc := ⟨.hbm, 108, rfl⟩
abbrev main_call3_v15 : Ref sig .tc := ⟨.hbm, 109, rfl⟩
abbrev main_v11 : Ref sig .tc := ⟨.hbm, 110, rfl⟩
abbrev main_v12 : Ref sig .tc := ⟨.hbm, 111, rfl⟩
abbrev main_v13 : Ref sig .tc := ⟨.hbm, 112, rfl⟩
abbrev main_v14 : Ref sig .tc := ⟨.hbm, 113, rfl⟩
abbrev main_v15 : Ref sig .tc := ⟨.hbm, 114, rfl⟩
abbrev main_v16 : Ref sig .tc := ⟨.hbm, 115, rfl⟩
abbrev main_v17 : Ref sig .tc := ⟨.hbm, 116, rfl⟩
abbrev main_v18 : Ref sig .tc := ⟨.hbm, 117, rfl⟩
abbrev main_call4_cst : Ref sig .tc := ⟨.hbm, 118, rfl⟩
abbrev main_call4_v0 : Ref sig .tc := ⟨.hbm, 119, rfl⟩
abbrev main_v19 : Ref sig .tc := ⟨.hbm, 120, rfl⟩
abbrev main_v20 : Ref sig .tc := ⟨.hbm, 121, rfl⟩
abbrev main_v21 : Ref sig .tc := ⟨.hbm, 122, rfl⟩
abbrev main_v22 : Ref sig .tc := ⟨.hbm, 123, rfl⟩
abbrev main_v23 : Ref sig .tc := ⟨.hbm, 124, rfl⟩
abbrev main_call5_cst : Ref sig .tc := ⟨.hbm, 125, rfl⟩
abbrev main_call5_v0 : Ref sig .tc := ⟨.hbm, 126, rfl⟩
abbrev main_v24 : Ref sig .tc := ⟨.hbm, 127, rfl⟩
abbrev main_v25 : Ref sig .tc := ⟨.hbm, 128, rfl⟩
abbrev main_v26 : Ref sig .tc := ⟨.hbm, 129, rfl⟩
abbrev main_v27 : Ref sig .tc := ⟨.hbm, 130, rfl⟩
abbrev main_v28 : Ref sig .tc := ⟨.hbm, 131, rfl⟩

abbrev nD : Nat := 1
abbrev τ : Topo := Topo.v7x

variable {F : FTy → Type} [FloatOps F]
-- ==== Proof.Spec.lean ====
/- The network as plain sums on the extended reals, one row at a time: a row of features is looked up and laid side
   by side, then passes three dense layers. Both programs are brought to this form. -/
module

public import Idealize.ShloMosaic.Lib.Pointwise

@[expose] public section

noncomputable section

namespace Cert.Spec

open Idealize.ShloMosaic

/-- A matrix of extended reals. -/
abbrev Mat (a b : Nat) : Type := (⟨2, ![a, b]⟩ : Shape).Idx → EReal

/-- A vector of extended reals. -/
abbrev Row (a : Nat) : Type := (⟨1, ![a]⟩ : Shape).Idx → EReal

/-- An integer word as an extended real. -/
abbrev real (w : BitVec 32) : EReal := FloatOps.sitofp (F := Ideal) .f32 w

theorem real_one : real 1#32 = 1 := by simp [real, FloatOps.sitofp]

theorem real_zero : real 0#32 = 0 := by simp [real, FloatOps.sitofp]

/-- Two words are equal exactly when the extended reals they denote are. -/
theorem real_inj {u v : BitVec 32} : real u = real v ↔ u = v := by
  simp [real, FloatOps.sitofp, BitVec.toInt_inj]

/-- A row's features: the four looked-up table rows, then the dense features. The row number of a table is the index
    word read as a natural number; it is only used for words below the table's height. -/
def feat (row : Fin 11 → BitVec 32) (cp : Mat 100000 32) (wk : Mat 7 16) (hr : Mat 24 16) (sl : Mat 100000 32) (k : Fin 103) : EReal :=
  if h : k.val < 32 then cp (ix2 (Fin.ofNat 100000 (row 0).toNat) ⟨k, h⟩)
  else if h : k.val - 32 < 16 then wk (ix2 (Fin.ofNat 7 (row 1).toNat) ⟨k - 32, h⟩)
  else if h : k.val - 32 - 16 < 16 then hr (ix2 (Fin.ofNat 24 (row 2).toNat) ⟨k - 32 - 16, h⟩)
  else if h : k.val - 32 - 16 - 16 < 32 then sl (ix2 (Fin.ofNat 100000 (row 3).toNat) ⟨k - 32 - 16 - 16, h⟩)
  else real (row ⟨4 + (k - 32 - 16 - 16 - 32), by omega⟩)

/-- Three dense layers, the first two followed by `max · 0`. -/
def mlp (f : Fin 103 → EReal) (w1 : Mat 103 1024) (b1 : Row 1024) (w2 : Mat 1024 1024) (b2 : Row 1024) (w3 : Mat 1024 1) (b3 : Row 1) : EReal :=
  ∑ k : Fin 1024, max (∑ j : Fin 1024, max (∑ l : Fin 103, f l * w1 (ix2 l j) + b1 (ix1 j)) 0 * w2 (ix2 j k) + b2 (ix1 k)) 0
    * w3 (ix2 k 0) + b3 (ix1 0)

/-- The whole network: one result per row. -/
def out (x : (⟨2, ![16384, 11]⟩ : Shape).Idx → BitVec 32) (cp : Mat 100000 32) (wk : Mat 7 16) (hr : Mat 24 16) (sl : Mat 100000 32)
    (w1 : Mat 103 1024) (b1 : Row 1024) (w2 : Mat 1024 1024) (b2 : Row 1024) (w3 : Mat 1024 1) (b3 : Row 1) : Mat 16384 1 := fun i =>
  mlp (feat (fun k => x (ix2 (i 0) k)) cp wk hr sl) w1 b1 w2 b2 w3 b3

/-! ## Sums over the two concatenated axes, piece by piece -/

/-- A sum over an axis of `a + b` places, whose term depends on a value that is read from one of two pieces, is the
    sum over the first piece plus the sum over the second. -/
theorem cut (a b : Nat) (f : Fin (a + b) → EReal → EReal) (p : Fin a → EReal) (q : Fin b → EReal) :
    (∑ k : Fin (a + b), f k (if h : k.val < a then p ⟨k, h⟩ else q ⟨k - a, by omega⟩))
      = ∑ i : Fin a, f (Fin.castAdd b i) (p i) + ∑ i : Fin b, f (Fin.natAdd a i) (q i) := by
  rw [Fin.sum_univ_add]
  congr 1
  · exact Finset.sum_congr rfl fun i _ => congrArg _ (dif_pos i.isLt)
  · refine Finset.sum_congr rfl fun i _ => congrArg _ ((dif_neg (Nat.not_lt.2 (Nat.le_add_right _ _))).trans (congrArg q ?_))
    exact Fin.ext (Nat.add_sub_cancel_left a i)

/-- The same for five pieces. -/
theorem cut5 (a b c d e : Nat) (f : Fin (a + (b + (c + (d + e)))) → EReal → EReal)
    (p : Fin a → EReal) (q : Fin b → EReal) (u : Fin c → EReal) (v : Fin d → EReal) (z : Fin e → EReal) :
    (∑ k : Fin (a + (b + (c + (d + e)))), f k (if h : k.val < a then p ⟨k, h⟩ else if h : k.val - a < b then q ⟨k - a, h⟩
        else if h : k.val - a - b < c then u ⟨k - a - b, h⟩ else if h : k.val - a - b - c < d then v ⟨k - a - b - c, h⟩
        else z ⟨k - a - b - c - d, by omega⟩))
      = ∑ i : Fin a, f ⟨i, by omega⟩ (p i) + (∑ i : Fin b, f ⟨a + i, by omega⟩ (q i) + (∑ i : Fin c, f ⟨a + (b + i), by omega⟩ (u i)
        + (∑ i : Fin d, f ⟨a + (b + (c + i)), by omega⟩ (v i) + ∑ i : Fin e, f ⟨a + (b + (c + (d + i))), by omega⟩ (z i)))) := by
  have h1 := cut d e (fun k => f (Fin.natAdd a (Fin.natAdd b (Fin.natAdd c k)))) v z
  have h2 := cut c (d + e) (fun k => f (Fin.natAdd a (Fin.natAdd b k))) u
    fun k => if h : k.val < d then v ⟨k, h⟩ else z ⟨k - d, by omega⟩
  have h3 := cut b (c + (d + e)) (fun k => f (Fin.natAdd a k)) q
    fun k => if h : k.val < c then u ⟨k, h⟩ else if h : k.val - c < d then v ⟨k - c, h⟩ else z ⟨k - c - d, by omega⟩
  have h4 := cut a (b + (c + (d + e))) f p
    fun k => if h : k.val < b then q ⟨k, h⟩ else if h : k.val - b < c then u ⟨k - b, h⟩
      else if h : k.val - b - c < d then v ⟨k - b - c, h⟩ else z ⟨k - b - c - d, by omega⟩
  exact h4.trans (congrArg _ (h3.trans (congrArg _ (h2.trans (congrArg _ h1)))))

/-- A row's features against a matrix column `w`, piece by piece. -/
theorem sum_feat (row : Fin 11 → BitVec 32) (cp : Mat 100000 32) (wk : Mat 7 16) (hr : Mat 24 16) (sl : Mat 100000 32)
    (w : Fin 103 → EReal) :
    ∑ k : Fin 103, feat row cp wk hr sl k * w k
      = ∑ i : Fin 32, cp (ix2 (Fin.ofNat 100000 (row 0).toNat) i) * w ⟨i, by omega⟩
        + (∑ i : Fin 16, wk (ix2 (Fin.ofNat 7 (row 1).toNat) i) * w ⟨32 + i, by omega⟩
        + (∑ i : Fin 16, hr (ix2 (Fin.ofNat 24 (row 2).toNat) i) * w ⟨32 + (16 + i), by omega⟩
        + (∑ i : Fin 32, sl (ix2 (Fin.ofNat 100000 (row 3).toNat) i) * w ⟨32 + (16 + (16 + i)), by omega⟩
        + ∑ i : Fin 7, real (row ⟨4 + i, by omega⟩) * w ⟨32 + (16 + (16 + (32 + i))), by omega⟩))) :=
  cut5 32 16 16 32 7 (fun k e => e * w k) (fun i => cp (ix2 (Fin.ofNat 100000 (row 0).toNat) i))
    (fun i => wk (ix2 (Fin.ofNat 7 (row 1).toNat) i)) (fun i => hr (ix2 (Fin.ofNat 24 (row 2).toNat) i))
    (fun i => sl (ix2 (Fin.ofNat 100000 (row 3).toNat) i)) fun i => real (row ⟨4 + i, by omega⟩)

end Cert.Spec
end
-- ==== Proof.Rows.lean ====
/- What the kernel's one-hot stage makes of a tile of the integer array: each of the first 32 columns says
   whether one of the row's four indices has one of eight values, and the last seven columns are the row's dense
   features. Everything is read at one entry of the 4096 by 39 array. -/
module

public import proofs.«01_k».proof.Proof.Gen.KernelIdeal.Value
public import proofs.«01_k».proof.Proof.Spec

@[expose] public section

set_option maxRecDepth 16384

noncomputable section

namespace Cert.Rows

open Cert.KernelIdeal Cert.KernelIdeal.Gen Cert.Spec Idealize.ShloMosaic Idealize.SL.Sem

/-- The column of the integer array that lane `l` of the one-hot array is made from: eight lanes for each of the
    four index columns, then one lane for each dense column. -/
def src (l : Fin 39) : Fin 11 :=
  if l.val < 32 then ⟨l.val / 8 % 11, Nat.mod_lt _ (by decide)⟩ else ⟨(l.val - 28) % 11, Nat.mod_lt _ (by decide)⟩

/-- The spreading matrix has its one in column `l` at row `src l`. -/
theorem spread : ∀ (l : Fin 39) (k : Fin 11),
    BitVec.setWidth 32 (IntOp.ori
      (IntOp.andi (IntOp.cmpi .slt (BitVec.ofNat 32 l) 32#32)
        (IntOp.cmpi .eq (BitVec.ofNat 32 k)
          (Scalar.select
            (IntOp.andi
              (IntOp.cmpi .ne
                (IntOp.subi (BitVec.setWidth 32 (IntOp.cmpi .sgt (BitVec.ofNat 32 l) 0#32))
                  (BitVec.setWidth 32 (IntOp.cmpi .slt (BitVec.ofNat 32 l) 0#32)))
                (Scalar.subi (Scalar.extui (Scalar.cmpi .sgt 8#32 0#32)) (Scalar.extui (Scalar.cmpi .slt 8#32 0#32))))
              (IntOp.cmpi .ne (IntOp.remsi .vector (BitVec.ofNat 32 l) 8#32) 0#32))
            (IntOp.subi (IntOp.divsi .vector (BitVec.ofNat 32 l) 8#32) 1#32)
            (IntOp.divsi .vector (BitVec.ofNat 32 l) 8#32))))
      (IntOp.andi (IntOp.cmpi .sge (BitVec.ofNat 32 l) 32#32)
        (IntOp.cmpi .eq (BitVec.ofNat 32 k) (IntOp.subi (BitVec.ofNat 32 l) 28#32))))
      = if k = src l then 1#32 else 0#32 := by decide +kernel

/-- The first product copies: lane `l` of row `r` is the word in column `src l`. -/
theorem copied (x : Vec Ideal S4096x11 .i32) (r : Fin 4096) (l : Fin 39) :
    k0_pay2 (F := Ideal) x (ix2 r l) = real (x (ix2 r (src l))) := by
  pointwise [k0_pay2]
  rw [Finset.sum_eq_single (src l)]
  · rw [spread, if_pos rfl]
    exact (congrArg (_ * ·) real_one).trans (mul_one _)
  · intro k _ hk
    rw [spread, if_neg hk]
    exact (congrArg (_ * ·) real_zero).trans (mul_zero _)
  · exact fun h => absurd (Finset.mem_univ _) h

/-- The value a lane is compared with is its number modulo 8. -/
theorem lane : ∀ l : Fin 39,
    (Scalar.select
      (IntOp.andi
        (IntOp.xori
          (IntOp.cmpi .slt (IntOp.remsi .vector (BitVec.ofNat 32 l) (Scalar.select (Scalar.cmpi .eq 8#32 0#32) 1#32 8#32)) 0#32)
          (Scalar.cmpi .slt (Scalar.select (Scalar.cmpi .eq 8#32 0#32) 1#32 8#32) 0#32))
        (IntOp.cmpi .ne (IntOp.remsi .vector (BitVec.ofNat 32 l) (Scalar.select (Scalar.cmpi .eq 8#32 0#32) 1#32 8#32)) 0#32))
      (IntOp.addi (IntOp.remsi .vector (BitVec.ofNat 32 l) (Scalar.select (Scalar.cmpi .eq 8#32 0#32) 1#32 8#32))
        (Scalar.select (Scalar.cmpi .eq 8#32 0#32) 1#32 8#32))
      (IntOp.remsi .vector (BitVec.ofNat 32 l) (Scalar.select (Scalar.cmpi .eq 8#32 0#32) 1#32 8#32)))
      = BitVec.ofNat 32 (l.val % 8) := by decide +kernel

theorem below : ∀ l : Fin 39, IntOp.cmpi .slt (BitVec.ofNat 32 l) 32#32 = if l.val < 32 then 1#1 else 0#1 := by
  decide +kernel

/-- The row of the one-hot array that the kernel multiplies with: for each of the first 32 lanes, 1 where the row's
    index in column `l / 8` is `l % 8` and 0 elsewhere; then the dense features. -/
def lanes (row : Fin 11 → BitVec 32) (l : Fin 39) : EReal :=
  if l.val < 32 then (if row (src l) = BitVec.ofNat 32 (l.val % 8) then 1 else 0) else real (row (src l))

/-- The kernel's one-hot stage at one entry. -/
theorem oneHot (x : Vec Ideal S4096x11 .i32) (r : Fin 4096) (l : Fin 39) :
    k0_pay3 (F := Ideal) (k0_pay2 x) (iota .tc S4096x39 32 [1] iota_S4096x39_d1_w32) 8#32 (Scalar.cmpi .eq 8#32 0#32) (ix2 r l)
      = lanes (fun k => x (ix2 r k)) l := by
  pointwise [k0_pay3]
  rw [lane, below, copied]
  unfold lanes
  by_cases h : l.val < 32
  · rw [if_pos h, if_pos h]
    by_cases e : x (ix2 r (src l)) = BitVec.ofNat 32 (l.val % 8)
    · rw [if_pos e, decide_eq_true (real_inj.2 e)]
      exact real_one
    · rw [if_neg e, decide_eq_false fun e' => e (real_inj.1 e')]
      exact real_zero
  · rw [if_neg h, if_neg h]
    rfl

end Cert.Rows
end
-- ==== Proof.Block.lean ====
/- What one grid point computes: the 4096 by 1 block that the kernel's body stores, read at one row, as plain sums
   over the blocks that it loads. -/
module

public import proofs.«01_k».proof.Proof.Rows
public import Idealize.ShloMosaic.Lib.Pipeline.ValueKit

@[expose] public section

set_option maxRecDepth 16384

noncomputable section

namespace Cert.Block

open Cert.KernelIdeal Cert.KernelIdeal.Gen Cert.Rows Idealize.ShloMosaic Idealize.SL.Sem

/-- The 39 by 1024 matrix that the one-hot array is multiplied with, at row `l` and column `j`: eight rows for each
    of the four tables, each the table's row times its part of the first weight matrix, then the weight rows of the
    dense features. `t` holds the first eight rows of three tables side by side. -/
def folded (t : Vec Ideal S8x80 .f32) (wk : Vec Ideal S7x16 .f32) (w : Vec Ideal S103x1024 .f32) (l : Fin 39) (j : Fin 1024) : EReal :=
  if h : l.val < 8 then ∑ i : Fin 32, t (ix2 ⟨l, h⟩ ⟨i, by omega⟩) * w (ix2 ⟨i, by omega⟩ j)
  else if h : l.val - 8 < 8 then
    ∑ i : Fin 16, (if h' : l.val - 8 < 7 then wk (ix2 ⟨l - 8, h'⟩ i) else 0) * w (ix2 ⟨32 + i, by omega⟩ j)
  else if h : l.val - 8 - 8 < 8 then ∑ i : Fin 16, t (ix2 ⟨l - 8 - 8, h⟩ ⟨64 + i, by omega⟩) * w (ix2 ⟨48 + i, by omega⟩ j)
  else if h : l.val - 8 - 8 - 8 < 8 then
    ∑ i : Fin 32, t (ix2 ⟨l - 8 - 8 - 8, h⟩ ⟨32 + i, by omega⟩) * w (ix2 ⟨64 + i, by omega⟩ j)
  else w (ix2 ⟨96 + (l - 8 - 8 - 8 - 8), by omega⟩ j)

/-- The block's value at row `r`. -/
theorem stored (x : Vec Ideal S4096x11 .i32) (t : Vec Ideal S8x80 .f32) (wk : Vec Ideal S7x16 .f32)
    (w1 : Vec Ideal S103x1024 .f32) (w2 : Vec Ideal S1024x1024 .f32) (w3 : Vec Ideal S1x1024 .f32) (r : Fin 4096) :
    out0_6 x t wk w1 w2 w3 (ix2 r 0)
      = ∑ k : Fin 1024, max (∑ j : Fin 1024, max (∑ l : Fin 39, lanes (fun k => x (ix2 r k)) l * folded t wk w1 l j) 0
          * w2 (ix2 j k)) 0 * w3 (ix2 0 k) := by
  frame_out
  pointwise [k0_pay1, k0_pay4, k0_pay5, k0_pay6, k0_pay7]
  refine Finset.sum_congr rfl fun k _ => congrArg (fun s => max s 0 * w3 (ix2 0 k)) ?_
  refine Finset.sum_congr rfl fun j _ => congrArg (fun s => max s 0 * w2 (ix2 j k)) ?_
  refine Finset.sum_congr rfl fun l _ => ?_
  rw [oneHot]
  rfl

end Cert.Block
end
-- ==== Proof.FirstLayer.lean ====
/- The first dense layer: a row of the one-hot array times the folded matrix is the row's features times the first
   weight matrix, because a one-hot row times eight table rows picks one of them. -/
module

public import proofs.«01_k».proof.Proof.Block

@[expose] public section

noncomputable section

namespace Cert.FirstLayer

open Cert.KernelIdeal Cert.Rows Cert.Block Cert.Spec Idealize.ShloMosaic

theorem src_0 : ∀ i : Fin 8, src ⟨i, by omega⟩ = 0 := by decide
theorem src_1 : ∀ i : Fin 8, src ⟨8 + i, by omega⟩ = 1 := by decide
theorem src_2 : ∀ i : Fin 8, src ⟨8 + (8 + i), by omega⟩ = 2 := by decide
theorem src_3 : ∀ i : Fin 8, src ⟨8 + (8 + (8 + i)), by omega⟩ = 3 := by decide
theorem src_dense : ∀ i : Fin 7, src ⟨8 + (8 + (8 + (8 + i))), by omega⟩ = ⟨4 + i, by omega⟩ := by decide

/-- A lane among the first 32 says whether its index is its number modulo 8. -/
theorem lanes_low (row : Fin 11 → BitVec 32) (l : Fin 39) (q : Fin 11) (i : Fin 8) (hl : l.val < 32) (hq : src l = q)
    (hi : l.val % 8 = i.val) : lanes row l = if row q = BitVec.ofNat 32 i then 1 else 0 := by
  rw [lanes, if_pos hl, hq, hi]

/-- The last seven lanes are the dense features. -/
theorem lanes_high (row : Fin 11 → BitVec 32) (i : Fin 7) :
    lanes row ⟨8 + (8 + (8 + (8 + i))), by omega⟩ = real (row ⟨4 + i, by omega⟩) := by
  rw [lanes, if_neg (by dsimp only; omega), src_dense]

/-- A one-hot sum over eight places is the value at the place that the word names. -/
theorem pick (w : BitVec 32) (hw : w.toNat < 8) (g : Fin 8 → EReal) :
    ∑ i : Fin 8, (if w = BitVec.ofNat 32 i then 1 else 0) * g i = g ⟨w.toNat, hw⟩ := by
  rw [Finset.sum_eq_single ⟨w.toNat, hw⟩]
  · rw [if_pos (by simp), one_mul]
  · intro i _ hi
    rw [if_neg, zero_mul]
    intro e
    refine hi (Fin.ext ?_)
    have h := congrArg BitVec.toNat e
    rw [BitVec.toNat_ofNat, Nat.mod_eq_of_lt (by omega)] at h
    exact h.symm
  · exact fun h => absurd (Finset.mem_univ _) h

/-- The first layer of one row at column `j`, before its bias: both ways of writing it agree when the four index words are
    below 7, the height of the week table, and `t` holds the first eight rows of the other three tables. -/
theorem equal (row : Fin 11 → BitVec 32) (cp : Mat 100000 32) (wk : Mat 7 16) (hr : Mat 24 16) (sl : Mat 100000 32)
    (t : Vec Ideal S8x80 .f32) (w : Mat 103 1024) (j : Fin 1024)
    (h0 : (row 0).toNat < 7) (h1 : (row 1).toNat < 7) (h2 : (row 2).toNat < 7) (h3 : (row 3).toNat < 7)
    (tcp : ∀ (a : Fin 8) (i : Fin 32), t (ix2 a ⟨i, by omega⟩) = cp (ix2 ⟨a, by omega⟩ i))
    (tsl : ∀ (a : Fin 8) (i : Fin 32), t (ix2 a ⟨32 + i, by omega⟩) = sl (ix2 ⟨a, by omega⟩ i))
    (thr : ∀ (a : Fin 8) (i : Fin 16), t (ix2 a ⟨64 + i, by omega⟩) = hr (ix2 ⟨a, by omega⟩ i)) :
    ∑ l : Fin 39, lanes row l * folded t wk w l j = ∑ k : Fin 103, feat row cp wk hr sl k * w (ix2 k j) := by
  refine (cut5 8 8 8 8 7 (fun l e => lanes row l * e)
    (fun a => ∑ i : Fin 32, t (ix2 a ⟨i, by omega⟩) * w (ix2 ⟨i, by omega⟩ j))
    (fun a => ∑ i : Fin 16, (if h' : a.val < 7 then wk (ix2 ⟨a, h'⟩ i) else 0) * w (ix2 ⟨32 + i, by omega⟩ j))
    (fun a => ∑ i : Fin 16, t (ix2 a ⟨64 + i, by omega⟩) * w (ix2 ⟨48 + i, by omega⟩ j))
    (fun a => ∑ i : Fin 32, t (ix2 a ⟨32 + i, by omega⟩) * w (ix2 ⟨64 + i, by omega⟩ j))
    (fun a => w (ix2 ⟨96 + a, by omega⟩ j))).trans ?_
  rw [sum_feat row cp wk hr sl fun k => w (ix2 k j)]
  have e0 : Fin.ofNat 100000 (row 0).toNat = ⟨(row 0).toNat, by omega⟩ := Fin.ext (Nat.mod_eq_of_lt (by omega))
  have e1 : Fin.ofNat 7 (row 1).toNat = ⟨(row 1).toNat, h1⟩ := Fin.ext (Nat.mod_eq_of_lt h1)
  have e2 : Fin.ofNat 24 (row 2).toNat = ⟨(row 2).toNat, by omega⟩ := Fin.ext (Nat.mod_eq_of_lt (by omega))
  have e3 : Fin.ofNat 100000 (row 3).toNat = ⟨(row 3).toNat, by omega⟩ := Fin.ext (Nat.mod_eq_of_lt (by omega))
  rw [e0, e1, e2, e3]
  refine congrArg₂ (· + ·) ?_ (congrArg₂ (· + ·) ?_ (congrArg₂ (· + ·) ?_ (congrArg₂ (· + ·) ?_ ?_)))
  · refine (Finset.sum_congr rfl fun i _ => congrArg (· * _)
      (lanes_low row _ 0 i (by dsimp only; omega) (src_0 i) (by dsimp only; omega))).trans ((pick (row 0) (by omega) _).trans ?_)
    exact Finset.sum_congr rfl fun i _ => congrArg (· * _) (tcp _ i)
  · refine (Finset.sum_congr rfl fun i _ => congrArg (· * _)
      (lanes_low row _ 1 i (by dsimp only; omega) (src_1 i) (by dsimp only; omega))).trans ((pick (row 1) (by omega) _).trans ?_)
    exact Finset.sum_congr rfl fun i _ => congrArg (· * _) (dif_pos h1)
  · refine (Finset.sum_congr rfl fun i _ => congrArg (· * _)
      (lanes_low row _ 2 i (by dsimp only; omega) (src_2 i) (by dsimp only; omega))).trans ((pick (row 2) (by omega) _).trans ?_)
    exact Finset.sum_congr rfl fun i _ => congrArg₂ (· * ·) (thr _ i) (congrArg (fun k => w (ix2 k j)) (Fin.ext (by dsimp only; omega)))
  · refine (Finset.sum_congr rfl fun i _ => congrArg (· * _)
      (lanes_low row _ 3 i (by dsimp only; omega) (src_3 i) (by dsimp only; omega))).trans ((pick (row 3) (by omega) _).trans ?_)
    exact Finset.sum_congr rfl fun i _ => congrArg₂ (· * ·) (tsl _ i) (congrArg (fun k => w (ix2 k j)) (Fin.ext (by dsimp only; omega)))
  · exact Finset.sum_congr rfl fun i _ => congrArg₂ (· * ·) (lanes_high row i) (congrArg (fun k => w (ix2 k j)) (Fin.ext (by dsimp only; omega)))

/-- So a row of the stored block is the network without biases on that row. -/
theorem stored (x : Vec Ideal S4096x11 .i32) (t : Vec Ideal S8x80 .f32) (wk : Mat 7 16) (w1 : Mat 103 1024) (w2 : Mat 1024 1024)
    (w3 : Vec Ideal S1x1024 .f32) (r : Fin 4096)
    (row : Fin 11 → BitVec 32) (cp : Mat 100000 32) (hr : Mat 24 16) (sl : Mat 100000 32) (w3' : Mat 1024 1)
    (hx : ∀ k, x (ix2 r k) = row k)
    (h0 : (row 0).toNat < 7) (h1 : (row 1).toNat < 7) (h2 : (row 2).toNat < 7) (h3 : (row 3).toNat < 7)
    (tcp : ∀ (a : Fin 8) (i : Fin 32), t (ix2 a ⟨i, by omega⟩) = cp (ix2 ⟨a, by omega⟩ i))
    (tsl : ∀ (a : Fin 8) (i : Fin 32), t (ix2 a ⟨32 + i, by omega⟩) = sl (ix2 ⟨a, by omega⟩ i))
    (thr : ∀ (a : Fin 8) (i : Fin 16), t (ix2 a ⟨64 + i, by omega⟩) = hr (ix2 ⟨a, by omega⟩ i))
    (hw : ∀ k, w3 (ix2 0 k) = w3' (ix2 k 0)) :
    Gen.out0_6 x t wk w1 w2 w3 (ix2 r 0)
      = mlp (feat row cp wk hr sl) w1 (fun _ => 0) w2 (fun _ => 0) w3' (fun _ => 0) := by
  rw [Block.stored, show (fun k => x (ix2 r k)) = row from funext hx]
  unfold mlp
  simp only [add_zero]
  refine Finset.sum_congr rfl fun k _ => congrArg₂ (· * ·) (congrArg (max · 0) ?_) (hw k)
  refine Finset.sum_congr rfl fun j _ => congrArg (fun s => max s 0 * w2 (ix2 j k)) ?_
  exact equal row cp wk hr sl t w1 j h0 h1 h2 h3 tcp tsl thr

end Cert.FirstLayer
end
-- ==== Proof.KernelValue.lean ====
/- What the kernel's result array holds after the run: the four blocks tile it, and each block is the network on its
   rows, with no biases. -/
module

public import proofs.«01_k».proof.Proof.FirstLayer
public import Idealize.ShloMosaic.Lib.Claim
public import Idealize.ShloMosaic.Lib.StableHlo.ReadAt
public import Idealize.ShloMosaic.Lib.Tactic.CleanTypes

@[expose] public section

set_option maxRecDepth 16384

noncomputable section

namespace Cert.KernelValue

open Cert.KernelIdeal Cert.KernelIdeal.Gen Cert.Spec Idealize.ShloMosaic Idealize.ShloMosaic.TcCoe Idealize.SL.Sem
open Idealize.ShloMosaic.Pipeline (Dat)

variable (m : (ℓ : Loc nD τ sig) → Buf (Elt Ideal) ℓ) (c : Dev nD)

/-- The integer tile moves down with the grid point, and so does the result's block; every other block is its whole array. -/
theorem index : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] := by
  decide +kernel

/-- Row `r` of the integer tile at grid point `t` is row `t * 4096 + r` of the integer argument. -/
theorem tile (t : Fin cfg0.N) (r : Fin 4096) (k : Fin 11) (h : t.val * 4096 + r.val < 16384) :
    iblk m c 0 t (ix2 r k) = m (c.tc.loc main_arg0) (ix2 ⟨t.val * 4096 + r, h⟩ k) := by
  blk_ext [iblk, V, index t]

/-- Every grid point sees the whole week table. -/
theorem week (t : Fin cfg0.N) : iblk m c 2 t = m (c.tc.loc main_arg2) := by
  funext i
  blk_ext [iblk, V, index t]

/-- Every grid point sees the whole first weight matrix. -/
theorem weight1 (t : Fin cfg0.N) : iblk m c 3 t = m (c.tc.loc main_arg5) := by
  funext i
  blk_ext [iblk, V, index t]

/-- Every grid point sees the whole second weight matrix. -/
theorem weight2 (t : Fin cfg0.N) : iblk m c 4 t = m (c.tc.loc main_arg7) := by
  funext i
  blk_ext [iblk, V, index t]

/-- Every grid point sees the whole array of the three joined tables. -/
theorem tables (t : Fin cfg0.N) : iblk m c 1 t = V m c main_v3 := by
  funext i
  blk_ext [iblk, index t]

/-- Every grid point sees the whole last weight row. -/
theorem weight3 (t : Fin cfg0.N) : iblk m c 5 t = V m c main_v4 := by
  funext i
  blk_ext [iblk, index t]

/-! ## The two arrays made before the kernel starts -/

/-- The last weight column, turned into a row. -/
theorem turned (k : Fin 1024) : (V m c main_v4 : S1x1024.Idx → EReal) (ix2 0 k) = m (c.tc.loc main_arg9) (ix2 k 0) := by
  entry_read
  pointwise

/-- The first eight rows of three tables, side by side. -/
theorem joined : (V m c main_v3 : S8x80.Idx → EReal) = concatenate S8x80 1
    [⟨S8x32, extractStridedSlice S8x32 ![0, 0] (m (c.tc.loc main_arg1) : S100000x32.Idx → EReal) slices_S100000x32_S8x32_0_0⟩,
     ⟨S8x32, extractStridedSlice S8x32 ![0, 0] (m (c.tc.loc main_arg4) : S100000x32.Idx → EReal) slices_S100000x32_S8x32_0_0⟩,
     ⟨S8x16, extractStridedSlice S8x16 ![0, 0] (m (c.tc.loc main_arg3) : S24x16.Idx → EReal) slices_S24x16_S8x16_0_0⟩]
    concatenates_S8x32_S8x32_S8x16_S8x80_d1 := by
  unfold V
  after_reads_simp
  rfl

/-- Columns 0 to 31 of the joined tables are the first table's. -/
theorem joined_cp (a : Fin 8) (i : Fin 32) :
    (V m c main_v3 : S8x80.Idx → EReal) (ix2 a ⟨i, by omega⟩) = m (c.tc.loc main_arg1) (ix2 ⟨a, by omega⟩ i) := by
  rw [joined]
  pointwise

/-- Columns 32 to 63 are the seller table's. -/
theorem joined_seller (a : Fin 8) (i : Fin 32) :
    (V m c main_v3 : S8x80.Idx → EReal) (ix2 a ⟨32 + i, by omega⟩) = m (c.tc.loc main_arg4) (ix2 ⟨a, by omega⟩ i) := by
  rw [joined]
  pointwise

/-- Columns 64 to 79 are the hour table's. -/
theorem joined_hour (a : Fin 8) (i : Fin 16) :
    (V m c main_v3 : S8x80.Idx → EReal) (ix2 a ⟨64 + i, by omega⟩) = m (c.tc.loc main_arg3) (ix2 ⟨a, by omega⟩ i) := by
  rw [joined]
  pointwise
  rw [dif_neg (by omega), dif_neg (by omega)]
  exact congrArg (fun k => m (c.tc.loc main_arg3) (ix2 _ k)) (Fin.ext (by dsimp only; omega))

/-! ## The result array -/

/-- The network without biases, from the arguments of device `c`. -/
def result : S16384x1.Idx → EReal :=
  Spec.out (m (c.tc.loc main_arg0)) (m (c.tc.loc main_arg1)) (m (c.tc.loc main_arg2)) (m (c.tc.loc main_arg3)) (m (c.tc.loc main_arg4))
    (m (c.tc.loc main_arg5)) (fun _ => 0) (m (c.tc.loc main_arg7)) (fun _ => 0) (m (c.tc.loc main_arg9)) (fun _ => 0)

/-- Every index word is below 7. -/
def InRange : Prop :=
  ∀ (r : Fin 16384) (k : Fin 4), ((m (c.tc.loc main_arg0) : S16384x11.Idx → BitVec 32) (ix2 r ⟨k, by omega⟩)).toNat < 7

/-- Row `r` of the block that grid point `t` stores is row `t * 4096 + r` of the network's results. -/
theorem block (hx : InRange m c) (t : Fin cfg0.N) (r : Fin 4096) (h : t.val * 4096 + r.val < 16384) :
    out0_6 (iblk m c 0 t) (iblk m c 1 t) (iblk m c 2 t) (iblk m c 3 t) (iblk m c 4 t) (iblk m c 5 t) (ix2 r 0)
      = result m c (ix2 ⟨t.val * 4096 + r, h⟩ 0) := by
  rw [week m c t, weight1 m c t, weight2 m c t, tables m c t, weight3 m c t]
  exact FirstLayer.stored _ _ _ _ _ _ r (fun k => m (c.tc.loc main_arg0) (ix2 ⟨t.val * 4096 + r, h⟩ k)) _ _ _ _
    (fun k => tile m c t r k h) (hx _ 0) (hx _ 1) (hx _ 2) (hx _ 3) (joined_cp m c) (joined_seller m c) (joined_hour m c) (turned m c)

/-- After the run the result array is the network without biases, where every index word is below 7. -/
theorem final (hx : InRange m c) : (dats m 0 c).arrAt 6 cfg0.N = result m c := by
  refine (dats m 0 c).arrAt_eq_of_covers 6 _ (by decide +kernel) fun t hf y => ?_
  rw [after0_6]
  have h0 : (y 0).val < 4096 := (y 0).isLt
  have h1 : (y 1).val < 1 := (y 1).isLt
  have ht : t.val < 4 := N_0 ▸ t.isLt
  have h : t.val * 4096 + (y 0).val < 16384 := by omega
  have hi : (cfg0.win 6).xinj (cfg0.grid.coords t) y = ix2 (⟨y 0, h0⟩ : Fin 4096) (0 : Fin 1) := by
    blk_ext [index t]
  have ho : ((cfg0.win 6).blk t).view.emb y = ix2 (⟨t.val * 4096 + y 0, h⟩ : Fin 16384) (0 : Fin 1) := by
    blk_ext [index t]
  refine (congrArg (cast _) (congrArg (out0_6 (iblk m c 0 t) (iblk m c 1 t) (iblk m c 2 t) (iblk m c 3 t) (iblk m c 4 t) (iblk m c 5 t)) hi)).trans ?_
  refine (cast_eq _ _).trans ?_
  refine (block m c hx t ⟨y 0, h0⟩ h).trans ?_
  rw [ho]

end Cert.KernelValue
end
-- ==== Proof.RefValue.lean ====
/- What the reference computes: the network with its biases, where every index word is below 7. -/
module

public import proofs.«01_k».proof.Proof.Gen.ReferenceIdeal.Run
public import proofs.«01_k».proof.Proof.Spec
public import Idealize.ShloMosaic.Lib.Tactic.CleanTypes
public import Idealize.ShloMosaic.Lib.Routing.Ops

@[expose] public section

set_option maxRecDepth 16384

noncomputable section

namespace Cert.RefValue

open Cert.ReferenceIdeal Cert.ReferenceIdeal.Gen Cert.Spec Idealize.ShloMosaic Idealize.ShloMosaic.TcCoe Idealize.SL.Sem

/-! ## One look-up -/

/-- A word below 7 is not negative, so the wrap-around of negative row numbers leaves it. -/
theorem wrapped (w n : BitVec 32) (h : w.toNat < 7) :
    Scalar.select (IntOp.cmpi .slt w 0#32) (IntOp.addi w n) w = w := by
  have e : IntOp.cmpi .slt w 0#32 = 0#1 := by
    have hw : w.toInt = w.toNat := BitVec.toInt_eq_toNat_of_lt (by omega)
    have h0 : ¬ w.toInt < 0 := by omega
    simp [IntOp.cmpi, BitVec.slt_eq_decide, h0]
  rw [e]
  rfl

/-- A word below 7 lies between 0 and the table's last row `n`, so the looked-up row is kept. -/
theorem kept (w n : BitVec 32) (h : w.toNat < 7) (hn : 6 ≤ n.toInt) (a b : EReal) :
    Scalar.select (Finset.fold IntOp.andi 1#1 (fun _ : Fin 1 => IntOp.andi (IntOp.cmpi .sge w 0#32) (IntOp.cmpi .sle w n)) Finset.univ) a b
      = a := by
  have hw : w.toInt = w.toNat := BitVec.toInt_eq_toNat_of_lt (by omega)
  have e1 : IntOp.cmpi .sge w 0#32 = 1#1 := by
    simp [IntOp.cmpi, BitVec.sle_eq_decide, hw]
  have e2 : IntOp.cmpi .sle w n = 1#1 := by
    have h0 : w.toInt ≤ n.toInt := by omega
    simp [IntOp.cmpi, BitVec.sle_eq_decide, h0]
  rw [e1, e2]
  rfl

/-- A word below 7, as the number of a row of a table with at least seven rows. -/
theorem row_word (N : Nat) [NeZero N] (hN : 7 ≤ N) (w : BitVec 32) (h : w.toNat < 7) :
    w = BitVec.ofNat 32 (Fin.ofNat N w.toNat).val := by
  rw [Fin.val_ofNat, Nat.mod_eq_of_lt (by omega), BitVec.ofNat_toNat, BitVec.setWidth_eq]

/-! ## The result -/

variable (m : (ℓ : Loc nD τ sig) → Buf (Elt Ideal) ℓ) (c : Dev nD)

/-- Every index word is below 7. -/
def InRange : Prop :=
  ∀ (r : Fin 16384) (k : Fin 4), ((m (c.tc.loc main_arg0) : S16384x11.Idx → BitVec 32) (ix2 r ⟨k, by omega⟩)).toNat < 7

/-- The network, from the arguments of device `c`. -/
def result : S16384x1.Idx → EReal :=
  Spec.out (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) (m (c.tc.loc main_arg8)) (m (c.tc.loc main_arg9))
    (m (c.tc.loc main_arg10))

/-- Entry `r` of the reference's result. -/
theorem entry (hx : InRange m c) (r : Fin 16384) : Value.res_main_v28 m c (ix2 r 0) = result m c (ix2 r 0) := by
  have w0 := wrapped (m (c.tc.loc main_arg0) (ix2 r 0)) 100000#32 (hx r 0)
  have w1 := wrapped (m (c.tc.loc main_arg0) (ix2 r 1)) 7#32 (hx r 1)
  have w2 := wrapped (m (c.tc.loc main_arg0) (ix2 r 2)) 24#32 (hx r 2)
  have w3 := wrapped (m (c.tc.loc main_arg0) (ix2 r 3)) 100000#32 (hx r 3)
  unfold Value.res_main_v28
  clean_types
  pointwise
  rw [w0, w1, w2, w3]
  refine congrArg (· + _) (Finset.sum_congr rfl fun k _ => congrArg (· * _) (congrArg (max · 0) (congrArg (· + _)
    (Finset.sum_congr rfl fun j _ => congrArg (· * _) (congrArg (max · 0) (congrArg (· + _)
      (Finset.sum_congr rfl fun l _ => congrArg (· * _) ?_)))))))
  refine dite_congr rfl (fun h => ?_) fun h => dite_congr rfl (fun h => ?_) fun h => dite_congr rfl (fun h => ?_)
    fun h => dite_congr rfl (fun h => ?_) fun h => rfl
  · refine (kept _ _ (hx r 0) (by decide) _ _).trans ?_
    simp only [ix2_eq_valueIdx]
    refine Routing.gather_row _ rfl rfl rfl rfl rfl _ _ r _ _ ?_ (by norm_num)
    simp only [← ix2_eq_valueIdx]
    pointwise
    rw [w0]
    exact row_word _ (by norm_num) _ (hx r 0)
  · refine (kept _ _ (hx r 1) (by decide) _ _).trans ?_
    simp only [ix2_eq_valueIdx]
    refine Routing.gather_row _ rfl rfl rfl rfl rfl _ _ r _ _ ?_ (by norm_num)
    simp only [← ix2_eq_valueIdx]
    pointwise
    rw [w1]
    exact row_word _ (by norm_num) _ (hx r 1)
  · refine (kept _ _ (hx r 2) (by decide) _ _).trans ?_
    simp only [ix2_eq_valueIdx]
    refine Routing.gather_row _ rfl rfl rfl rfl rfl _ _ r _ _ ?_ (by norm_num)
    simp only [← ix2_eq_valueIdx]
    pointwise
    rw [w2]
    exact row_word _ (by norm_num) _ (hx r 2)
  · refine (kept _ _ (hx r 3) (by decide) _ _).trans ?_
    simp only [ix2_eq_valueIdx]
    refine Routing.gather_row _ rfl rfl rfl rfl rfl _ _ r _ _ ?_ (by norm_num)
    simp only [← ix2_eq_valueIdx]
    pointwise
    rw [w3]
    exact row_word _ (by norm_num) _ (hx r 3)

/-- The reference's result array is the network, where every index word is below 7. -/
theorem final (hx : InRange m c) : Value.res_main_v28 m c = result m c := by
  funext i
  have hi : i = ix2 (i 0 : Fin 16384) (0 : Fin 1) := by
    rw [ix2_eq_valueIdx]
    funext a
    fin_cases a
    · rfl
    · exact Subsingleton.elim (α := Fin 1) _ _
  rw [hi]
  exact entry m c hx (i 0)

end Cert.RefValue
end
-- ==== Proof.Given.lean ====
/- What the precondition says: every index word is below 7, and the three biases are zero. -/
module

public import proofs.«01_k».proof.Proof.Gen.Pre_inputs_as_set_up
public import Idealize.ShloMosaic.Lib.Pointwise

@[expose] public section

noncomputable section

namespace Cert.Given

open Cert.Pre_inputs_as_set_up Cert.Pre_inputs_as_set_up.Gen Idealize.ShloMosaic

/-- A word that passes the two signed comparisons is below 7. -/
theorem below_seven (w : BitVec 32) (h : IntOp.andi (IntOp.cmpi .sge w 0#32) (IntOp.cmpi .slt w 7#32) = 1#1) : w.toNat < 7 := by
  have both : ∀ a b : BitVec 1, IntOp.andi a b = 1#1 → a = 1#1 ∧ b = 1#1 := by decide
  obtain ⟨h0, h7⟩ := both _ _ h
  have yes : ∀ b : Bool, BitVec.ofBool b = 1#1 → b = true := by decide
  have g0 : (0#32).toInt ≤ w.toInt := of_decide_eq_true ((BitVec.sle_eq_decide (x := 0#32) (y := w)) ▸ yes _ h0)
  have g7 : w.toInt < (7#32).toInt := of_decide_eq_true ((BitVec.slt_eq_decide (x := w) (y := 7#32)) ▸ yes _ h7)
  rw [show (0#32).toInt = 0 by decide] at g0
  rw [show (7#32).toInt = 7 by decide] at g7
  have c := BitVec.toInt_eq_toNat_cond w
  split at c <;> omega

/-- A number that compares equal to the zero word is zero. -/
theorem eq_zero (a : EReal) (h : Ideal.cmp .oeq a (Ideal.ofBits .f32 0#32) = 1#1) : a = 0 := by
  have yes : ∀ b : Bool, BitVec.ofBool b = 1#1 → b = true := by decide
  exact (of_decide_eq_true (yes _ h)).trans Ideal.ofBits_zero_f32

variable {x : IVec S16384x11 32} {cp : FVec Ideal S100000x32 .f32} {wk : FVec Ideal S7x16 .f32} {hr : FVec Ideal S24x16 .f32}
  {sl : FVec Ideal S100000x32 .f32} {w1 : FVec Ideal S103x1024 .f32} {b1 : FVec Ideal S1024 .f32} {w2 : FVec Ideal S1024x1024 .f32}
  {b2 : FVec Ideal S1024 .f32} {w3 : FVec Ideal S1024x1 .f32} {b3 : FVec Ideal S1 .f32}

/-- Every index word is below 7. -/
theorem index_words (h : (fn (F := Ideal) x cp wk hr sl w1 b1 w2 b2 w3 b3).1 = fun _ => 1#1) (r : Fin 16384) (k : Fin 4) :
    (x (ix2 r ⟨k, by omega⟩)).toNat < 7 := by
  have e := congrFun h (ix2 r k)
  unfold fn at e
  pointwise at e
  exact below_seven _ e

/-- The first bias is zero. -/
theorem bias1 (h : (fn (F := Ideal) x cp wk hr sl w1 b1 w2 b2 w3 b3).2.1 = fun _ => 1#1) : b1 = fun _ => 0 := by
  funext i
  have e := congrFun h i
  exact eq_zero _ e

/-- The second bias is zero. -/
theorem bias2 (h : (fn (F := Ideal) x cp wk hr sl w1 b1 w2 b2 w3 b3).2.2.1 = fun _ => 1#1) : b2 = fun _ => 0 := by
  funext i
  have e := congrFun h i
  exact eq_zero _ e

/-- The last bias is zero. -/
theorem bias3 (h : (fn (F := Ideal) x cp wk hr sl w1 b1 w2 b2 w3 b3).2.2.2 = fun _ => 1#1) : b3 = fun _ => 0 := by
  funext i
  have e := congrFun h i
  exact eq_zero _ e

end Cert.Given
end
-- ==== Proof.Equal.lean ====
/- Where the precondition holds, the kernel's result array and the reference's are the same. -/
module

public import proofs.«01_k».proof.Defs
public import proofs.«01_k».proof.Proof.KernelValue
public import proofs.«01_k».proof.Proof.RefValue
public import proofs.«01_k».proof.Proof.Given

@[expose] public section

set_option maxRecDepth 16384

noncomputable section

namespace Cert.Equal

open Idealize.ShloMosaic Idealize.ShloMosaic.TcCoe Idealize.SL.Sem

/-- From memories that agree on the arguments, both programs end with the network without biases as their result. -/
theorem algebraic : Cert.algebraic_KernelIdeal_ReferenceIdeal_pre_inputs_as_set_up := by
  intro m g m' g' hpre hagree
  refine ⟨fun c => KernelValue.result m c, ?_, ?_⟩
  · refine (θ_run Cert.KernelIdeal.defs _ _).mono (fun r h c => ?_) (Cert.KernelIdeal.Value.run_blocks m g)
    exact ⟨(h c).1.trans (KernelValue.final m c (Given.index_words (hpre c).1)), (h c).2⟩
  · refine (θ_run Cert.ReferenceIdeal.defs _ _).mono (fun r h c => ?_) (Cert.ReferenceIdeal.Value.run (F := Ideal) m' g')
    refine ⟨(h c).1.trans ?_, (h c).2⟩
    obtain ⟨e0, e1, e2, e3, e4, e5, e6, e7, e8, e9, e10⟩ := hagree c
    obtain ⟨p0, p1, p2, p3⟩ := hpre c
    have hx : RefValue.InRange m' c := by
      unfold RefValue.InRange
      rw [e0]
      exact Given.index_words p0
    refine (RefValue.final m' c hx).trans ?_
    unfold RefValue.result KernelValue.result
    rw [e0, e1, e2, e3, e4, e5, e6, e7, e8, e9, e10, Given.bias1 p1, Given.bias2 p2, Given.bias3 p3]

end Cert.Equal
end
-- ==== Proof.lean ====
/- The claims of this certificate, put together: the frames, and the equation of the two programs' results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_inputs_as_set_up
public import proofs.«01_k».proof.Proof.Gen.KernelIdeal.Value
public import proofs.«01_k».proof.Proof.Gen.ReferenceIdeal.Run
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel as printed runs and leaves its arguments alone. -/
theorem kernel_frame : Cert.quiescent_Kernel := fun m g _ => Cert.Kernel.Gen.frame m g

/-- So does the kernel over the extended reals. -/
theorem ideal_frame : Cert.quiescent_KernelIdeal := fun m g _ => Cert.KernelIdeal.Gen.frame m g

/-- So does the reference, which has no semaphore. -/
theorem reference_frame : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- All the claims. -/
theorem claim : Cert.Claim := ⟨Cert.Kernel.Gen.facts, Cert.KernelIdeal.Gen.facts, Cert.ReferenceIdeal.Gen.facts, Cert.Pre_inputs_as_set_up.Gen.facts,
  kernel_frame, ideal_frame, fun m g _ => ideal_frame m g trivial, reference_frame, fun m g _ => reference_frame m g trivial, trivial,
  Cert.Equal.algebraic⟩

end Cert.Proof

end
